-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32768x2048 : Shape := ⟨2, ![32768, 2048]⟩
abbrev S1984x2048 : Shape := ⟨2, ![1984, 2048]⟩

abbrev nBuf : Space → Nat
  | .hbm => 2
  | .vmem => 4
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .local _ .vmem, ⟨0, _⟩ => ⟨S1984x2048, .f32⟩
  | .local _ .vmem, ⟨1, _⟩ => ⟨S1984x2048, .f32⟩
  | .local _ .vmem, ⟨2, _⟩ => ⟨S1984x2048, .f32⟩
  | .local _ .vmem, ⟨3, _⟩ => ⟨S1984x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1984x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1984x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Copy.lean ====
/-
  The run of the copy kernel, for any reading of the floats: the result array ends equal to the argument array.

  The kernel moves 1984 rows per grid point, 17 points, and 32768 = 16 * 1984 + 1024: the last block overhangs the
  array, so its fetch and its write-back are cut to 1024 rows. What the staging buffers hold below those rows is
  unknown and nothing here speaks of it.

  * `body_copies`: the body, on any two whole staging buffers, leaves the second holding what the first holds;
  * `stagedData`: what each staging buffer holds after a point, on the rows inside the array: the argument's block;
  * `body_ok`: the body meets the pipeline's obligation for these data at every point;
  * `result_eq`: the written-back blocks put together are the argument array;
  * `run`: the whole program's run, with the counters back at zero.
-/
module

public import proofs.«01_k».proof.Proof.Gen.KernelIdeal.Frame
public import proofs.«01_k».proof.Proof.Gen.KernelIdeal.Skeleton
public import Idealize.ShloMosaic.Lib.Pipeline.KitQuiescent
public import Idealize.ShloMosaic.Lib.Pipeline.ValueKit
public import Idealize.ShloMosaic.Lib.VecWindow

@[expose] public section

noncomputable section

namespace Cert.CopyProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

/-! ## The body -/

/-- The kernel body on two whole staging buffers, whichever they are: the first keeps its contents `x`, the second,
    whatever it held, ends holding `x`. -/
theorem body_copies (c : Dev nD) (E : Set ℕ) (i : grid0.Coords)
    (src : Memref sig .tc .vmem S1984x2048 .f32) (hsrc : src.IsWhole)
    (dst : Memref sig .tc .vmem S1984x2048 .f32) (hdst : dst.IsWhole)
    (x y : S1984x2048.Idx → Elt F .f32) (K : PUnit → sProp 𝕄) :
    iprop(owns (c : Thread nD τ) src fullShare x ∗ owns (c : Thread nD τ) dst fullShare y
        ∗ (iprop(owns (c : Thread nD τ) src fullShare x ∗ owns (c : Thread nD τ) dst fullShare x) -∗ K ⟨⟩))
      ⊢ wp frame (wpE (defs₀ (F := F)) Variants.none c none) E (cc0__copy_block i src hsrc dst hdst) K := by
  rw [cc0__copy_block_eq_skeleton]
  unfold cc0__copy_block_skel owns
  iintro ⟨⟨%f, %hf, Hs⟩, ⟨%g, -, Hd⟩, Hk⟩
  subst hf
  sl_exec
  sl_step
  iapply Hk
  isplitl [Hs]
  · iexists f; isplitr; · ipureintro; rfl
    iexact Hs
  · iexists _; isplitr; rotate_left
    · iexact Hd
    ipureintro
    exact (View.read_writes_full _ _ _ _ _).trans (View.readAt_full _ _ _)

/-! ## The staged data -/

variable (m : (ℓ : Loc nD τ sig) → Buf (Elt F) ℓ) (ρ : Dev nD → PrngReg)

/-- The argument's rows under point `t`'s block, those inside the array: 1984 of them, 1024 at the last point. -/
def rows (c : Dev nD) (t : Fin cfg0.N) : (win0_0.xblock (grid0.coords t)).Idx → Elt F .f32 :=
  (win0_0.blk t).view.read (Elt F) (m ((c : Thread nD τ).loc main_arg0))

/-- A whole staging buffer whose leading rows are `rows`; the others are zero words that nothing reads. -/
def rowsFilled (c : Dev nD) (t : Fin cfg0.N) : S1984x2048.Idx → Elt F .f32 :=
  win0_0.fill (grid0.coords t) (fun _ => Scalar.ofBits .f32 0#32) (rows m c t)

/-- The pipeline's proof data: arrays as launched, and after every point both staging buffers at the argument's
    rows. -/
def stagedData (_ : Fin 1) (c : Dev nD) : Dat τ (Elt F) Unit ℕ (UR sig nD τ) ℕ cfg0 c where
  A w := m ((cfg0.win w).arr.view.loc (c : Thread nD τ))
  after w t := match w with
    | ⟨0, _⟩ => rowsFilled m c t
    | ⟨1, _⟩ => rowsFilled m c t
  Φ _ := iprop(emp)
  q _ := fullShare
  owed _ := 0

/-- The body finds the input's buffer freshly fetched: the argument's rows, over unknown contents `d`. -/
theorem before_in (c : Dev nD) (t : Fin cfg0.N) (d) :
    (stagedData m 0 c).before (0 : Fin 2) t d = win0_0.fill (grid0.coords t) d (rows m c t) := by
  unfold Dat.before; rw [if_pos (fetch0_0 t)]; rfl

/-- The two windows have one index map and one cut: the leading part of a filled buffer is what filled it. -/
theorem cut_rowsFilled (c : Dev nD) (t : Fin cfg0.N) :
    win0_1.cut (grid0.coords t) (rowsFilled m c t) = rows m c t :=
  win0_0.cut_fill _ _ _

/-- The body's obligation at every point: it is handed the input's buffer as fetched and the result's at anything, and
    hands both back with the argument's rows on the part inside the array. -/
theorem body_ok (c : Dev nD) : BodyObligationLoose (stagedData m 0 c) (defs₀ (F := F)) Variants.none () Set.univ := fun t => by
  rw [bigSep_W0, bigSep_W0]
  simp only
  rw [show (stagedData m 0 c).Φ t.succ = (stagedData m 0 c).Φ t.castSucc from rfl,
    show (stagedData m 0 c).owesAt () t.succ = (stagedData m 0 c).owesAt () t.castSucc from rfl]
  iintro ⟨HΦ, Ho, ⟨%d, Hs⟩, ⟨%e, Hd⟩⟩
  rw [before_in m c t d]
  iapply (body_copies c Set.univ (grid0.coords t) (st0_0 t) (hstage0_0 ((cfg0.slots t 0).cast nbuf0_0))
    (st0_1 t) (hstage0_1 ((cfg0.slots t 1).cast nbuf0_1)) (win0_0.fill (grid0.coords t) d (rows m c t)) _ _)
  isplitl [Hs]; · iexact Hs
  isplitl [Hd]; · iexact Hd
  iintro ⟨Hs, Hd⟩
  isplitl [HΦ]; · iexact HΦ
  isplitl [Ho]; · iexact Ho
  have hcut : win0_0.cut (grid0.coords t) (rowsFilled m c t) = rows m c t := cut_rowsFilled m c t
  rw [← hcut]
  isplitl [Hs]
  · iexists d; iexact Hs
  · iexists d; iexact Hd

/-! ## The result array -/

/-- The 17 written-back blocks, the last one cut, cover the result array. -/
theorem blocks_cover : (cfg0.win (1 : Fin 2)).Covers := by decide +kernel

/-- The result array after the last write-back is the argument array as launched. -/
theorem result_eq (c : Dev nD) :
    (stagedData m 0 c).arrAt (1 : Fin 2) cfg0.N = m ((c : Thread nD τ).loc main_arg0) :=
  (stagedData m 0 c).arrAt_eq_of_covers (1 : Fin 2) (m ((c : Thread nD τ).loc main_arg0)) blocks_cover fun t _ y =>
    congrFun (cut_rowsFilled m c t) y

/-! ## The run -/

-- the launch theorem's implicit arguments are found by unifying its conclusion with this one, up to plain definitions
set_option backward.isDefEq.respectTransparency.types false in
/-- From any memory with zero counters every weakly fair execution terminates, and then the result array equals the
    argument array, the argument array is as launched and every counter is zero. -/
theorem run : θ_run defs (onTc (τ := τ) (main (F := F))) ⟨m, fun _ => 0, ρ⟩ fun r =>
    (∀ c : Dev nD, r.2.mem ((c.tc : Thread nD τ).loc main_v0) = m ((c.tc : Thread nD τ).loc main_arg0)
      ∧ r.2.mem ((c.tc : Thread nD τ).loc main_arg0) = m ((c.tc : Thread nD τ).loc main_arg0))
    ∧ r.2.sem = fun _ => 0 :=
  Pipeline.θ_run_region_noSem_kit_quiescent cfgs (stagedData m) () (0 : Fin 1) launch0 emb₁ defs₀ Variants.none m ρ main
    (hbody := body_ok m)
    (hshare := fun c => (stagedData m 0 c).share_full fun _ => rfl) (howed := fun _ _ => rfl)
    (u₀ := initOf (Pipeline.cells cfgs launch0.cellOf_inj) (Pipeline.launchToks cfgs launch0.cellOf_inj))
    (hu₀ := BI.Entails.refl _)
    (V := V m) (hmain := hmain m Variants.none) (hA := fun _ _ => rfl)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h hz => ⟨fun c => ⟨((h c).1 (1 : Fin 2)).trans (result_eq m c),
      ((h c).1 (0 : Fin 2)).trans ((stagedData m 0 c).arrAt_in (0 : Fin 2) rfl _)⟩, hz⟩)

end Cert.CopyProof

end
-- ==== Proof.Agree.lean ====
/-
  The reference's run, and the kernel and the reference side by side, both for any reading of the floats.

  The reference returns its argument: its program has no operation, and its result array is its argument array.
-/
module

public import proofs.«01_k».proof.Proof.Copy
public import proofs.«01_k».proof.Proof.Gen.ReferenceIdeal
public import Idealize.ShloMosaic.Lib.StableHlo.RunHlo
public import Idealize.ShloMosaic.Lib.Quiescent

@[expose] public section

noncomputable section

namespace Cert.CopyProof

open Idealize.ShloMosaic Idealize.SL.Sem

variable {F : FTy → Type} [FloatOps F]

/-- The reference terminates with its argument array, which is its result, as launched; it declares no counter. -/
theorem reference_run
    (m : (ℓ : Loc ReferenceIdeal.nD ReferenceIdeal.τ ReferenceIdeal.sig) → Buf (Elt F) ℓ)
    (ρ : Dev ReferenceIdeal.nD → PrngReg) :
    θ_run ReferenceIdeal.defs (onTc (τ := ReferenceIdeal.τ) (ReferenceIdeal.main (F := F))) ⟨m, fun _ => 0, ρ⟩ fun r =>
      (∀ c : Dev ReferenceIdeal.nD, r.2.mem ((c.tc : Thread ReferenceIdeal.nD ReferenceIdeal.τ).loc ReferenceIdeal.main_arg0)
        = m ((c.tc : Thread ReferenceIdeal.nD ReferenceIdeal.τ).loc ReferenceIdeal.main_arg0))
      ∧ r.2.sem = fun _ => 0 :=
  θ_run_mono
    (StableHlo.run_seq (by decide) (by decide) ReferenceIdeal.defs ReferenceIdeal.main (fun _ => []) (fun _ => rfl)
      (fun _ => trivial) m ρ)
    fun r h => ⟨fun c => h c ReferenceIdeal.main_arg0, sem_eq_zero_of_no_sems rfl r.2⟩

/-- Started from equal arguments, the kernel and the reference both terminate, with one and the same result: the
    argument. Both leave their argument array as it was. -/
theorem agree
    (m : (ℓ : Loc KernelIdeal.nD KernelIdeal.τ KernelIdeal.sig) → Buf (Elt F) ℓ) (ρ : Dev KernelIdeal.nD → PrngReg)
    (m' : (ℓ : Loc ReferenceIdeal.nD ReferenceIdeal.τ ReferenceIdeal.sig) → Buf (Elt F) ℓ)
    (ρ' : Dev ReferenceIdeal.nD → PrngReg)
    (harg : ∀ c : Dev KernelIdeal.nD,
      m' ((c.tc : Thread ReferenceIdeal.nD ReferenceIdeal.τ).loc ReferenceIdeal.main_arg0)
        = m ((c.tc : Thread KernelIdeal.nD KernelIdeal.τ).loc KernelIdeal.main_arg0)) :
    ∃ v : (c : Dev KernelIdeal.nD) → Buf (Elt F) ((c.tc : Thread KernelIdeal.nD KernelIdeal.τ).loc KernelIdeal.main_v0),
      θ_run KernelIdeal.defs (onTc (τ := KernelIdeal.τ) (KernelIdeal.main (F := F))) ⟨m, fun _ => 0, ρ⟩ (fun r =>
        ∀ c : Dev KernelIdeal.nD,
          r.2.mem ((c.tc : Thread KernelIdeal.nD KernelIdeal.τ).loc KernelIdeal.main_v0) = v c
          ∧ r.2.mem ((c.tc : Thread KernelIdeal.nD KernelIdeal.τ).loc KernelIdeal.main_arg0)
            = m ((c.tc : Thread KernelIdeal.nD KernelIdeal.τ).loc KernelIdeal.main_arg0))
      ∧ θ_run ReferenceIdeal.defs (onTc (τ := ReferenceIdeal.τ) (ReferenceIdeal.main (F := F))) ⟨m', fun _ => 0, ρ'⟩ (fun r =>
        ∀ c : Dev ReferenceIdeal.nD,
          r.2.mem ((c.tc : Thread ReferenceIdeal.nD ReferenceIdeal.τ).loc ReferenceIdeal.main_arg0) = v c
          ∧ r.2.mem ((c.tc : Thread ReferenceIdeal.nD ReferenceIdeal.τ).loc ReferenceIdeal.main_arg0)
            = m' ((c.tc : Thread ReferenceIdeal.nD ReferenceIdeal.τ).loc ReferenceIdeal.main_arg0)) :=
  ⟨fun c => m ((c.tc : Thread KernelIdeal.nD KernelIdeal.τ).loc KernelIdeal.main_arg0),
    θ_run_mono (run m ρ) fun _ h => h.1,
    θ_run_mono (reference_run m' ρ') fun _ h c => ⟨(h.1 c).trans (harg c), h.1 c⟩⟩

end Cert.CopyProof

end
-- ==== Proof.lean ====
/-
  The certificate's proof: every claim from the runs proved in Proof/Copy.lean and Proof/Agree.lean.

  Those are stated for any reading of the floats, of the programs printed for the exact reading. The programs printed
  for the machine's own reading have the same text, so the same theorems, read at words, are about them.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Agree

@[expose] public section

noncomputable section

namespace Cert.Proof

open Idealize.ShloMosaic Idealize.SL.Sem Cert.CopyProof

/-- The kernel read exactly: it terminates, its argument array ends as launched, every counter ends at zero. -/
theorem kernelIdeal_frame : Cert.quiescent_KernelIdeal := fun m g _ =>
  θ_run_mono (run m g) fun _ h => ⟨fun c => (h.1 c).2, h.2⟩

-- the tables select by label with a `match` each; the option lets the comparison unfold a `match` on a variable
set_option smartUnfolding false in
/-- The two printings of the kernel bind its name to the same body: both tables unfold to one term. -/
theorem defs_eq : Cert.Kernel.defs (F := Bits) = Cert.KernelIdeal.defs (F := Bits) := rfl

/-- The kernel on words: the same. -/
theorem kernel_frame : Cert.quiescent_Kernel := fun m g _ => by
  rw [defs_eq]
  exact θ_run_mono (run (F := Bits) m g) fun _ h => ⟨fun c => (h.1 c).2, h.2⟩

/-- All the claims: the four frames, the idealization, equality of the results read exactly, and equality of the
    results bit for bit. -/
theorem claim : Cert.Claim :=
  ⟨Cert.Kernel.Gen.facts, Cert.KernelIdeal.Gen.facts, Cert.Reference.Gen.facts, Cert.ReferenceIdeal.Gen.facts,
    kernel_frame, kernelIdeal_frame,
    fun m g _ => reference_run (F := Bits) m g, fun m g _ => reference_run m g,
    trivial,
    fun m g m' g' _ h => agree m g m' g' h,
    fun m g m' g' _ h => by rw [defs_eq]; exact agree (F := Bits) m g m' g' h⟩

end Cert.Proof

end
